-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x24576 : Shape := ⟨2, ![128, 24576]⟩
abbrev S12288x3072 : Shape := ⟨2, ![12288, 3072]⟩
abbrev S128x1 : Shape := ⟨2, ![128, 1]⟩
abbrev S3072 : Shape := ⟨1, ![3072]⟩
abbrev S1x3072 : Shape := ⟨2, ![1, 3072]⟩
abbrev S128x3072 : Shape := ⟨2, ![128, 3072]⟩
abbrev S12288x256 : Shape := ⟨2, ![12288, 256]⟩
abbrev S1x256 : Shape := ⟨2, ![1, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S128x24576, .fp8e4m3⟩
  | .hbm, ⟨1, _⟩ => ⟨S12288x3072, .i8⟩
  | .hbm, ⟨2, _⟩ => ⟨S128x1, .f32⟩
  | .hbm, ⟨3, _⟩ => ⟨S3072, .f32⟩
  | .hbm, ⟨4, _⟩ => ⟨S1x3072, .f32⟩
  | .hbm, ⟨5, _⟩ => ⟨S128x3072, .bf16⟩
  | .local _ .vmem, ⟨0, _⟩ => ⟨S128x24576, .fp8e4m3⟩
  | .local _ .vmem, ⟨1, _⟩ => ⟨S12288x256, .i8⟩
  | .local _ .vmem, ⟨2, _⟩ => ⟨S12288x256, .i8⟩
  | .local _ .vmem, ⟨3, _⟩ => ⟨S128x1, .f32⟩
  | .local _ .vmem, ⟨4, _⟩ => ⟨S1x256, .f32⟩
  | .local _ .vmem, ⟨5, _⟩ => ⟨S1x256, .f32⟩
  | .local _ .vmem, ⟨6, _⟩ => ⟨S128x256, .bf16⟩
  | .local _ .vmem, ⟨7, _⟩ => ⟨S128x256, .bf16⟩
  | _, _ => ⟨S128x24576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x24576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12288x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x24576 : Shape := ⟨2, ![128, 24576]⟩
abbrev S12288x3072 : Shape := ⟨2, ![12288, 3072]⟩
abbrev S128x1 : Shape := ⟨2, ![128, 1]⟩
abbrev S3072 : Shape := ⟨1, ![3072]⟩
abbrev S1x3072 : Shape := ⟨2, ![1, 3072]⟩
abbrev S128x3072 : Shape := ⟨2, ![128, 3072]⟩
abbrev S128x12288x2 : Shape := ⟨3, ![128, 12288, 2]⟩
abbrev S128x12288x1 : Shape := ⟨3, ![128, 12288, 1]⟩
abbrev S128x12288 : Shape := ⟨2, ![128, 12288]⟩

abbrev nBuf : Space → Nat
  | .hbm => 6
  | .vmem => 5
  | .smem => 0
  | _ => 0

abbrev bufTy : (tb : Table) → Fin (tcTables nBuf tb) → BufTy
  | .hbm, ⟨0, _⟩ => ⟨S128x24576, .fp8e4m3⟩
  | .hbm, ⟨1, _⟩ => ⟨S12288x3072, .i8⟩
  | .hbm, ⟨2, _⟩ => ⟨S128x1, .f32⟩
  | .hbm, ⟨3, _⟩ => ⟨S3072, .f32⟩
  | .hbm, ⟨4, _⟩ => ⟨S1x3072, .f32⟩
  | .hbm, ⟨5, _⟩ => ⟨S128x3072, .bf16⟩
  | .local _ .vmem, ⟨0, _⟩ => ⟨S128x24576, .fp8e4m3⟩
  | .local _ .vmem, ⟨1, _⟩ => ⟨S12288x3072, .i8⟩
  | .local _ .vmem, ⟨2, _⟩ => ⟨S128x1, .f32⟩
  | .local _ .vmem, ⟨3, _⟩ => ⟨S1x3072, .f32⟩
  | .local _ .vmem, ⟨4, _⟩ => ⟨S128x3072, .bf16⟩
  | _, _ => ⟨S128x24576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x24576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x3072 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Down.Nibble.lean ====
/- A packed byte holds two signed four-bit weights. The plain unpacking (the half as an unsigned number, less sixteen
   from eight on) and the shifting one (move the half to the top of the word, shift it back arithmetically) agree. -/
module

public import Idealize.ShloMosaic.Lib.Pointwise

@[expose] public section

noncomputable section

namespace Cert.Down

open Idealize.ShloMosaic

/-- The signed value of a half of a packed byte: the low half for `p = 0`, else the high half. -/
def nib (p : ℕ) (b : BitVec 8) : EReal :=
  if p = 0 then
    FloatOps.sitofp (F := Ideal) .bf16 (IntOp.shrsi .vector (IntOp.shli .vector (b.setWidth 32) 28#32) 28#32)
  else FloatOps.sitofp (F := Ideal) .bf16 (IntOp.shrsi .vector (IntOp.shli .vector (b.setWidth 32) 24#32) 28#32)

/-- The low half, unpacked plainly. -/
theorem low_eq : ∀ b : BitVec 8,
    Scalar.select (IntOp.cmpi CmpIPredicate.sge (IntOp.andi (b.setWidth 32) 15#32) 8#32)
      (IntOp.subi (IntOp.andi (b.setWidth 32) 15#32) 16#32) (IntOp.andi (b.setWidth 32) 15#32)
    = IntOp.shrsi .vector (IntOp.shli .vector (b.setWidth 32) 28#32) 28#32 := by decide +kernel

/-- The high half, unpacked plainly. -/
theorem high_eq : ∀ b : BitVec 8,
    Scalar.select (IntOp.cmpi CmpIPredicate.sge (IntOp.shrsi .vector (b.setWidth 32) 4#32) 8#32)
      (IntOp.subi (IntOp.shrsi .vector (b.setWidth 32) 4#32) 16#32) (IntOp.shrsi .vector (b.setWidth 32) 4#32)
    = IntOp.shrsi .vector (IntOp.shli .vector (b.setWidth 32) 24#32) 28#32 := by decide +kernel

end Cert.Down

end
-- ==== Proof.Down.Block.lean ====
/- One 256-deep block of the down projection at the ideal instance: the product of 256 code columns with the 128 packed
    weight rows that hold their weights, two four-bit weights to a byte. -/
module

public import proofs.«01_k».proof.Proof.Gen.KernelIdeal.Skeleton
public import proofs.«01_k».proof.Proof.Down.Nibble

@[expose] public section

set_option maxRecDepth 16384

noncomputable section

namespace Cert.Down

open Idealize.ShloMosaic Cert.KernelIdeal Cert.KernelIdeal.Gen

/-- The product of one block as the body spells it. -/
def prod (w : Vec Ideal S128x256 .i8) (l : Vec Ideal S128x256 .fp8e4m3) : FVec Ideal S128x256 .f32 :=
  matmul dot_S128x256_S256x256_S128x256_1_0_0_1_n_n none (φ₁ := .fp8e4m3) l
    (truncf .fp8e4m3 (sitofp .bf16 (shapeCast S256x256 (concatenate S128x2x256 1
      [⟨S128x1x256, shapeCast S128x1x256 (shrsi (shli (extui 32 w natLt_8_32) (broadcast S128x256 28#32)) (broadcast S128x256 28#32)) shapeCasts_S128x256_S128x1x256⟩,
       ⟨S128x1x256, shapeCast S128x1x256 (shrsi (shli (extui 32 w natLt_8_32) (broadcast S128x256 24#32)) (broadcast S128x256 28#32)) shapeCasts_S128x256_S128x1x256⟩]
      concatenates_S128x1x256_S128x1x256_S128x2x256_d1) shapeCasts_S128x2x256_S256x256) : FVec Ideal S256x256 .bf16) bitsLt_fp8e4m3_bf16)
    (constant S128x256 .f32 0x00000000#32)

/-- The same read from the right: the body's operations are `prod`. -/
theorem prod_eq (w : Vec Ideal S128x256 .i8) (l : FVec Ideal S128x256 .fp8e4m3) :
    matmul dot_S128x256_S256x256_S128x256_1_0_0_1_n_n none (φ₁ := .fp8e4m3) l
      (truncf .fp8e4m3 (sitofp .bf16 (shapeCast S256x256 (concatenate S128x2x256 1
        [⟨S128x1x256, shapeCast S128x1x256 (shrsi (shli (extui 32 w natLt_8_32) (broadcast S128x256 28#32)) (broadcast S128x256 28#32)) shapeCasts_S128x256_S128x1x256⟩,
         ⟨S128x1x256, shapeCast S128x1x256 (shrsi (shli (extui 32 w natLt_8_32) (broadcast S128x256 24#32)) (broadcast S128x256 28#32)) shapeCasts_S128x256_S128x1x256⟩]
        concatenates_S128x1x256_S128x1x256_S128x2x256_d1) shapeCasts_S128x2x256_S256x256) : FVec Ideal S256x256 .bf16) bitsLt_fp8e4m3_bf16)
      (constant S128x256 .f32 0x00000000#32)
      = prod w l := rfl

theorem prod_apply (w : Vec Ideal S128x256 .i8) (l : Vec Ideal S128x256 .fp8e4m3) (r : Fin 128) (n : Fin 256) :
    prod w l (ix2 r n) = ∑ k : Fin 256, (l (ix2 r k) : EReal) * nib (k.val % 2) (w (ix2 ⟨k.val / 2, by omega⟩ n)) := by
  unfold prod
  pointwise
  refine Finset.sum_congr rfl fun k _ => ?_
  congr 1
  unfold nib
  by_cases h : k.val % 2 = 0
  · rw [dif_pos (by omega), if_pos h]
  · rw [dif_neg (by omega), if_neg h]

end Cert.Down

end
-- ==== Proof.Down.Load.lean ====
/- One block's product over the loads of the body, as a part of the sum over all code columns. -/
module

public import proofs.«01_k».proof.Proof.Down.Block
public import Idealize.ShloMosaic.Lib.Pipeline.ValueKit

@[expose] public section

set_option maxRecDepth 16384

noncomputable section

namespace Cert.Down

open Idealize.ShloMosaic Cert.KernelIdeal Cert.KernelIdeal.Gen

/-- The code of token `r` in column `k`. -/
def codeAt (x : Vec Ideal S128x24576 .fp8e4m3) (r : Fin 128) (k : ℕ) : EReal :=
  if h : k < 24576 then x (ix2 r ⟨k, h⟩) else 0

/-- The weight of column `k` of the codes for the block's output column `n`. -/
def weightAt (w : Vec Ideal S12288x256 .i8) (n : Fin 256) (k : ℕ) : EReal :=
  if h : k / 2 < 12288 then nib (k % 2) (w (ix2 ⟨k / 2, h⟩ n)) else 0

/-- The part of the sum that the 256 columns from `o` on give. -/
def part (x : Vec Ideal S128x24576 .fp8e4m3) (w : Vec Ideal S12288x256 .i8) (r : Fin 128) (n : Fin 256) (o : ℕ) : EReal :=
  ∑ k ∈ Finset.range 256, codeAt x r (o + k) * weightAt w n (o + k)

/-- One block's product over the loads at weight row `a` and code column `b = 2 a`. -/
theorem prod_ld (x : Vec Ideal S128x24576 .fp8e4m3) (w : Vec Ideal S12288x256 .i8) (r : Fin 128) (n : Fin 256) (a b : ℕ)
    (ha : ∀ i, (![a, 0] : Fin 2 → ℕ) i + S128x256.size i ≤ S12288x256.size i)
    (hb : ∀ i, (![0, b] : Fin 2 → ℕ) i + S128x256.size i ≤ S128x24576.size i) (hab : 2 * a = b) :
    prod (View.ld w (Rect.unit (s := S12288x256) ![a, 0] S128x256.size ha))
      (View.ld x (Rect.unit (s := S128x24576) ![0, b] S128x256.size hb)) (ix2 r n) = part x w r n b := by
  subst hab
  have ha' : a + 128 ≤ 12288 := ha 0
  rw [prod_apply]
  unfold part
  rw [Finset.sum_range (n := 256)]
  refine Finset.sum_congr rfl fun k _ => ?_
  have hk := k.isLt
  have e1 : (2 * a + k.val) / 2 = a + k.val / 2 := by omega
  have e2 : (2 * a + k.val) % 2 = k.val % 2 := by omega
  have e3 : a + k.val / 2 < 12288 := by omega
  have e4 : 2 * a + k.val < 24576 := by omega
  have l1 : View.ld x (Rect.unit (s := S128x24576) ![0, 2 * a] S128x256.size hb) (ix2 r k) = codeAt x r (2 * a + k.val) := by
    unfold codeAt
    rw [dif_pos e4]
    refine View.ld_unit_apply_of x _ _ hb _ _ fun i => ?_
    match i with
    | ⟨0, _⟩ => exact (Nat.zero_add _).symm
    | ⟨1, _⟩ => rfl
  have l2 : nib (k.val % 2) (View.ld w (Rect.unit (s := S12288x256) ![a, 0] S128x256.size ha) (ix2 ⟨k.val / 2, by omega⟩ n))
      = weightAt w n (2 * a + k.val) := by
    unfold weightAt
    simp only [e1, e2, dif_pos e3]
    refine congrArg _ (View.ld_unit_apply_of w _ _ ha _ _ fun i => ?_)
    match i with
    | ⟨0, _⟩ => rfl
    | ⟨1, _⟩ => exact (Nat.zero_add _).symm
  exact congrArg₂ (· * ·) l1 l2

end Cert.Down

end
-- ==== Proof.Down.Body.lean ====
/- The value that a grid point of the down projection stores, at an index of its block: the sum over all 24576 code
   columns, times the token's scale and the column's scale. -/
module

public import proofs.«01_k».proof.Proof.Down.Load
public import proofs.«01_k».proof.Proof.Gen.KernelIdeal.Frame
public import Idealize.ShloMosaic.Lib.Pipeline.ValueKit

@[expose] public section

set_option maxRecDepth 16384

noncomputable section

namespace Cert.Down

open Idealize.ShloMosaic Cert.KernelIdeal Cert.KernelIdeal.Gen

theorem out_apply (x0 : Vec Ideal S128x24576 .fp8e4m3) (x1 : Vec Ideal S12288x256 .i8) (x2 : Vec Ideal S128x1 .f32)
    (x3 : Vec Ideal S1x256 .f32) (r : Fin 128) (n : Fin 256) :
    out0_4 x0 x1 x2 x3 (ix2 r n)
      = (∑ j ∈ Finset.range 96, part x0 x1 r n (256 * j)) * x2 (ix2 r 0) * x3 (ix2 0 n) := by
  frame_out
  unfold_payloads
  simp only [prod_eq]
  pointwise
  simp (disch := decide) only [prod_ld]
  simp only [Finset.sum_range_succ, Finset.sum_range_zero, zero_add, Nat.reduceMul]

end Cert.Down

end
-- ==== Proof.Down.Sum.lean ====
/- A sum over 96 stretches of 256 consecutive places, as the sum over the even places and the sum over the odd ones. -/
module

public import Idealize.ShloMosaic.Lib.Pipeline.ValueKit

@[expose] public section

namespace Cert.Down

open Idealize.ShloMosaic

variable {M : Type} [AddCommMonoid M]

theorem sum_even_odd (f : ℕ → M) (n : ℕ) :
    ∑ k ∈ Finset.range (2 * n), f k
      = (∑ k ∈ Finset.range n, f (k * 2)) + ∑ k ∈ Finset.range n, f (k * 2 + 1) := by
  induction n with
  | zero => simp
  | succ n ih =>
    rw [show 2 * (n + 1) = 2 * n + 1 + 1 from rfl, Finset.sum_range_succ, Finset.sum_range_succ, ih,
      Finset.sum_range_succ, Finset.sum_range_succ, Nat.mul_comm n 2]
    abel

theorem sum_blocks (f : ℕ → M) :
    ∑ j ∈ Finset.range 96, ∑ k ∈ Finset.range 256, f (256 * j + k)
      = (∑ k : Fin 12288, f (k.val * 2)) + ∑ k : Fin 12288, f (k.val * 2 + 1) := by
  rw [Fin.sum_univ_eq_sum_range (fun k => f (k * 2)), Fin.sum_univ_eq_sum_range (fun k => f (k * 2 + 1)),
    ← sum_even_odd f 12288]
  simp only [Nat.mul_comm 256]
  exact Finset.sum_range_range_mul_add 96 256 f

end Cert.Down

end
-- ==== Proof.Down.Kernel.lean ====
/- The array of the down projection after the kernel's run, at each of its indices. -/
module

public import proofs.«01_k».proof.Proof.Down.Body
public import proofs.«01_k».proof.Proof.Down.Sum
public import proofs.«01_k».proof.Proof.Gen.KernelIdeal.Value

@[expose] public section

set_option maxRecDepth 16384

noncomputable section

namespace Cert.Down

open Idealize.ShloMosaic Idealize.ShloMosaic.TcCoe Cert.KernelIdeal Cert.KernelIdeal.Gen

/-- The down projection of the codes `x` by the packed weights `w`, with the scales `s` of the tokens and `ws` of the
    output columns. -/
def proj (x : Vec Ideal ⟨2, ![128, 24576]⟩ .fp8e4m3) (w : Vec Ideal ⟨2, ![12288, 3072]⟩ .i8)
    (s : Vec Ideal ⟨2, ![128, 1]⟩ .f32) (ws : Vec Ideal ⟨1, ![3072]⟩ .f32) : Vec Ideal ⟨2, ![128, 3072]⟩ .bf16 :=
  fun i => ((∑ k : Fin 12288, (x (ix2 (i 0) ⟨k.val * 2, by omega⟩) : EReal) * nib 0 (w (ix2 k (i 1))))
      + ∑ k : Fin 12288, (x (ix2 (i 0) ⟨k.val * 2 + 1, by omega⟩) : EReal) * nib 1 (w (ix2 k (i 1))))
    * s (ix2 (i 0) 0) * ws (ix1 (i 1))

/-- The same for one block of 256 output columns, as the body adds it up. -/
theorem out_proj (x0 : Vec Ideal S128x24576 .fp8e4m3) (x1 : Vec Ideal S12288x256 .i8) (x2 : Vec Ideal S128x1 .f32)
    (x3 : Vec Ideal S1x256 .f32) (r : Fin 128) (n : Fin 256) :
    out0_4 x0 x1 x2 x3 (ix2 r n)
      = ((∑ k : Fin 12288, (x0 (ix2 r ⟨k.val * 2, by omega⟩) : EReal) * nib 0 (x1 (ix2 k n)))
          + ∑ k : Fin 12288, (x0 (ix2 r ⟨k.val * 2 + 1, by omega⟩) : EReal) * nib 1 (x1 (ix2 k n)))
        * x2 (ix2 r 0) * x3 (ix2 0 n) := by
  refine (out_apply x0 x1 x2 x3 r n).trans ?_
  refine congrArg (fun z : EReal => z * x2 (ix2 r 0) * x3 (ix2 0 n)) ?_
  refine (sum_blocks fun k => codeAt x0 r k * weightAt x1 n k).trans ?_
  refine congrArg₂ (· + ·) (Finset.sum_congr rfl fun k _ => ?_) (Finset.sum_congr rfl fun k _ => ?_)
  · have e : k.val * 2 / 2 = k.val := by omega
    have e' : k.val * 2 % 2 = 0 := by omega
    have hk := k.isLt
    unfold codeAt weightAt
    simp only [e, e', dif_pos (show k.val * 2 < 24576 by omega), dif_pos hk]
  · have e : (k.val * 2 + 1) / 2 = k.val := by omega
    have e' : (k.val * 2 + 1) % 2 = 1 := by omega
    have hk := k.isLt
    unfold codeAt weightAt
    simp only [e, e', dif_pos (show k.val * 2 + 1 < 24576 by omega), dif_pos hk]

variable (m : (ℓ : Loc nD τ sig) → Buf (Elt Ideal) ℓ)

theorem idx : ∀ t : Fin cfg0.N, win0_0.index t = ![0, 0] ∧ win0_1.index t = ![0, t.val] ∧ win0_2.index t = ![0, 0]
    ∧ win0_3.index t = ![0, t.val] ∧ win0_4.index t = ![0, t.val] :=
  (by decide +kernel : ∀ t : Fin grid0.N, win0_0.index t = ![0, 0] ∧ win0_1.index t = ![0, t.val]
    ∧ win0_2.index t = ![0, 0] ∧ win0_3.index t = ![0, t.val] ∧ win0_4.index t = ![0, t.val])

theorem final (c : Dev nD) :
    (dats m 0 c).arrAt 4 cfg0.N
      = proj (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  idx_vars y
  rw [out_proj]
  unfold proj
  blk_point [iblk, V, idx t]

end Cert.Down

end
-- ==== Proof.Down.Ref.lean ====
/- The plain down projection at an index of its result. -/
module

public import proofs.«01_k».proof.Proof.Gen.ReferenceIdeal.Value
public import proofs.«01_k».proof.Proof.Down.Nibble
public import Idealize.ShloMosaic.Lib.Pipeline.ValueKit

@[expose] public section

set_option maxRecDepth 16384

noncomputable section

namespace Cert.Down

open Idealize.ShloMosaic Cert.ReferenceIdeal Cert.ReferenceIdeal.Gen

theorem ref_pay (w : Vec Ideal S12288x3072 .i8) (x : Vec Ideal S128x24576 .fp8e4m3) (s : Vec Ideal S128x1 .f32)
    (ws : Vec Ideal S1x3072 .f32) (r : Fin 128) (n : Fin 3072) :
    k0_pay1 w x s ws (ix2 r n)
      = ((∑ k : Fin 12288, (x (ix2 r ⟨k.val * 2, by omega⟩) : EReal) * nib 0 (w (ix2 k n)))
          + ∑ k : Fin 12288, (x (ix2 r ⟨k.val * 2 + 1, by omega⟩) : EReal) * nib 1 (w (ix2 k n)))
        * s (ix2 r 0) * ws (ix2 0 n) := by
  unfold_payloads
  pointwise
  simp only [low_eq, high_eq, nib, if_true, one_ne_zero, if_false]

end Cert.Down

end
-- ==== Proof.Down.Tie.lean ====
/- The kernel's down projection and the plain one leave equal arrays. -/
module

public import proofs.«01_k».proof.Defs
public import proofs.«01_k».proof.Proof.Down.Kernel
public import proofs.«01_k».proof.Proof.Down.Ref
public import Idealize.ShloMosaic.Lib.Claim

@[expose] public section

set_option maxRecDepth 16384

noncomputable section

namespace Cert.Down

open Idealize.ShloMosaic Idealize.ShloMosaic.TcCoe Idealize.SL.Sem

section Reference

open Cert.ReferenceIdeal Cert.ReferenceIdeal.Gen

variable (m : (ℓ : Loc nD τ sig) → Buf (Elt Ideal) ℓ)

theorem ref_idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, win0_0.index t = ![0, 0] ∧ win0_1.index t = ![0, 0]
    ∧ win0_2.index t = ![0, 0] ∧ win0_3.index t = ![0, 0] ∧ win0_4.index t = ![0, 0])

theorem ref_final (c : Dev nD) :
    (dats m 0 c).arrAt 4 cfg0.N
      = proj (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  rw [ref_pay]
  unfold proj
  blk_point [iblk, V, ref_idx t]

end Reference

theorem algebraic : Cert.algebraic_KernelIdeal_ReferenceIdeal := by
  pair_intro
  · run_from Cert.KernelIdeal.Value.run_blocks m g
  · run_from Cert.ReferenceIdeal.Value.run_blocks m' g'
    rw [ref_final, final, (hagree c).1, (hagree c).2.1, (hagree c).2.2.1, (hagree c).2.2.2]

end Cert.Down

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Down.Tie
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  Cert.Down.algebraic⟩

end Cert.Proof

end
